-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1x16x2048x2048 : Shape := ⟨4, ![1, 16, 2048, 2048]⟩
abbrev S4095x16 : Shape := ⟨2, ![4095, 16]⟩
abbrev S16x4095 : Shape := ⟨2, ![16, 4095]⟩
abbrev S_ : Shape := ⟨0, ![]⟩
abbrev S16x4096 : Shape := ⟨2, ![16, 4096]⟩
abbrev S1x1x1024x2048 : Shape := ⟨4, ![1, 1, 1024, 2048]⟩
abbrev S1x4096 : Shape := ⟨2, ![1, 4096]⟩
abbrev S1x3072 : Shape := ⟨2, ![1, 3072]⟩
abbrev S1024x3072 : Shape := ⟨2, ![1024, 3072]⟩
abbrev S1024x1024 : Shape := ⟨2, ![1024, 1024]⟩
abbrev S1024x4096 : Shape := ⟨2, ![1024, 4096]⟩
abbrev S1024x2048 : Shape := ⟨2, ![1024, 2048]⟩

abbrev nBuf : Space → Nat
  | .hbm => 8
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S1x16x2048x2048, .f32⟩
  | .hbm, ⟨2, _⟩ => ⟨S4095x16, .f32⟩
  | .hbm, ⟨3, _⟩ => ⟨S16x4095, .f32⟩
  | .hbm, ⟨4, _⟩ => ⟨S_, .i32⟩
  | .hbm, ⟨5, _⟩ => ⟨S_, .f32⟩
  | .hbm, ⟨6, _⟩ => ⟨S16x4096, .f32⟩
  | .hbm, ⟨7, _⟩ => ⟨S1x16x2048x2048, .f32⟩
  | .local _ .vmem, ⟨0, _⟩ => ⟨S16x4096, .f32⟩
  | .local _ .vmem, ⟨1, _⟩ => ⟨S1x1x1024x2048, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1024x2048, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_c : Ref sig .tc := ⟨.hbm, 4, rfl⟩
abbrev main_call0_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

def k0_off1 (i : grid0.Coords) : Fin 2 → Nat :=
  let arg0 : BitVec 32 := BitVec.ofNat 32 (i 0).val
  let v3 : Index := Scalar.indexCast arg0
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S1x2048x1024 : Shape := ⟨3, ![1, 2048, 1024]⟩
abbrev S1x16x2048x2048 : Shape := ⟨4, ![1, 16, 2048, 2048]⟩
abbrev S4095x16 : Shape := ⟨2, ![4095, 16]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2048x2048x1 : Shape := ⟨3, ![2048, 2048, 1]⟩
abbrev S1 : Shape := ⟨1, ![1]⟩
abbrev S1x1x1 : Shape := ⟨3, ![1, 1, 1]⟩
abbrev S2048x2048x16 : Shape := ⟨3, ![2048, 2048, 16]⟩
abbrev S16x2048x2048 : Shape := ⟨3, ![16, 2048, 2048]⟩

abbrev nBuf : Space → Nat
  | .hbm => 49
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x16x2048x2048, .f32⟩
  | .hbm, ⟨2, _⟩ => ⟨S4095x16, .f32⟩
  | .hbm, ⟨3, _⟩ => ⟨S2048, .i32⟩
  | .hbm, ⟨4, _⟩ => ⟨S1x2048, .i32⟩
  | .hbm, ⟨5, _⟩ => ⟨S2048x1, .i32⟩
  | .hbm, ⟨6, _⟩ => ⟨S2048x2048, .i32⟩
  | .hbm, ⟨7, _⟩ => ⟨S2048x2048, .i32⟩
  | .hbm, ⟨8, _⟩ => ⟨S2048x2048, .i32⟩
  | .hbm, ⟨9, _⟩ => ⟨S_, .i32⟩
  | .hbm, ⟨10, _⟩ => ⟨S2048x2048, .i32⟩
  | .hbm, ⟨11, _⟩ => ⟨S2048x2048, .i32⟩
  | .hbm, ⟨12, _⟩ => ⟨S_, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i1⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S2048x2048x1, .i32⟩
  | .hbm, ⟨31, _⟩ => ⟨S1, .i32⟩
  | .hbm, ⟨32, _⟩ => ⟨S_, .i32⟩
  | .hbm, ⟨33, _⟩ => ⟨S2048x2048x1, .i32⟩
  | .hbm, ⟨34, _⟩ => ⟨S2048x2048x1, .i1⟩
  | .hbm, ⟨35, _⟩ => ⟨S1x1x1, .i32⟩
  | .hbm, ⟨36, _⟩ => ⟨S2048x2048x1, .i32⟩
  | .hbm, ⟨37, _⟩ => ⟨S2048x2048x1, .i1⟩
  | .hbm, ⟨38, _⟩ => ⟨S2048x2048x1, .i1⟩
  | .hbm, ⟨39, _⟩ => ⟨S_, .i1⟩
  | .hbm, ⟨40, _⟩ => ⟨S2048x2048, .i1⟩
  | .hbm, ⟨41, _⟩ => ⟨S2048x2048x16, .f32⟩
  | .hbm, ⟨42, _⟩ => ⟨S2048x2048x16, .i1⟩
  | .hbm, ⟨43, _⟩ => ⟨S_, .f32⟩
  | .hbm, ⟨44, _⟩ => ⟨S2048x2048x16, .f32⟩
  | .hbm, ⟨45, _⟩ => ⟨S2048x2048x16, .f32⟩
  | .hbm, ⟨46, _⟩ => ⟨S16x2048x2048, .f32⟩
  | .hbm, ⟨47, _⟩ => ⟨S1x16x2048x2048, .f32⟩
  | .hbm, ⟨48, _⟩ => ⟨S1x16x2048x2048, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩

abbrev nD : Nat := 1
abbrev τ : Topo := Topo.v7x

variable {F : FTy → Type} [FloatOps F]
-- ==== Proof.Entry.lean ====
module

public import proofs.«01_k».proof.Proof.Gen.KernelIdeal.Value
public import Idealize.ShloMosaic.Lib.KernelVsHost
public import Idealize.ShloMosaic.Lib.StableHlo.ReadAt
@[expose] public section

/-!
  # The transposed table at the kernel's entry

  Before the kernel runs, the host transposes the table and appends one column, so that a head's biases lie in
  one row of 4096 lanes.
-/

noncomputable section

namespace Cert.Bias

open Cert.KernelIdeal Cert.KernelIdeal.Gen Idealize.ShloMosaic Idealize.ShloMosaic.TcCoe

variable {F : FTy → Type} [FloatOps F]
variable (m : (ℓ : Loc nD τ sig) → Buf (Elt F) ℓ)

/-- What the kernel is handed as its table: the argument, transposed and padded by one column. -/
theorem V_table (c : Dev nD) :
    (V m c main_call0_v1 : Vec F S16x4096 .f32)
      = pad S16x4096 ![0, 0] ![0, 1] ![0, 0]
          (transpose S16x4095 [1, 0] (m ((c : Thread nD τ).loc main_arg2) : Vec F S4095x16 .f32) transposes_S4095x16_S16x4095_1_0)
          (sitofp .f32 (constantI S_ 32 0#32)) pads_S16x4095_S16x4096_000_010 h_S_ := by
  unfold V
  after_reads_simp
  rfl

/-- Head `h`'s lane `q` of the handed table is row `q` of the argument in column `h`, for every lane but the
    appended one. -/
theorem V_table_apply (c : Dev nD) (h : Fin 16) (q : Fin 4096) (k : Fin 4095) (hk : k.val = q.val) :
    (V m c main_call0_v1 : Vec F S16x4096 .f32) (ValueIdx.ix2 h q)
      = (m ((c : Thread nD τ).loc main_arg2) : Vec F S4095x16 .f32) (ValueIdx.ix2 k h) := by
  rw [V_table]
  rw [pad_apply_of_inside _ _ _ _ _ _ _ (ValueIdx.ix2 h q) (ValueIdx.ix2 h k) (fun a => by
    match a with
    | ⟨0, _⟩ => show h.val = 0 + h.val * (0 + 1); omega
    | ⟨1, _⟩ => show q.val = 0 + k.val * (0 + 1); omega)]
  exact transpose_apply _ _ _ _ (ValueIdx.ix2 k h) (fun a => by
    match a with
    | ⟨0, _⟩ => rfl
    | ⟨1, _⟩ => rfl)

end Cert.Bias

end
-- ==== Proof.Block.lean ====
module

public import proofs.«01_k».proof.Proof.Gen.KernelIdeal.Value
public import Idealize.ShloMosaic.Lib.KernelVsHost
@[expose] public section

/-!
  # What one grid step computes

  A step adds to a block of scores (1024 query rows, 2048 key columns) a tile made from one row of
  the transposed table: the row is rotated by a run-time amount, broadcast to 1024 rows, and each row
  is rotated once more, by one lane further than the row above it.
-/

noncomputable section

namespace Cert.Bias

open Cert.KernelIdeal Cert.KernelIdeal.Gen Idealize.ShloMosaic

variable {F : FTy → Type} [FloatOps F] {α : Type}

/-- The strided rotation, taken over the tile widened to 4096 lanes and cut back to 2048 lanes, reads
    row `r` at lane `j + 1023 - r` of the tile that was widened. -/
theorem stridedRoll_apply (X : S1024x3072.Idx → α) (Y : S1024x1024.Idx → α) (r : Fin 1024) (j : Fin 2048) (k : Fin 3072)
    (hk : k.val + r.val = j.val + 1023) :
    extractStridedSlice S1024x2048 ![0, 0]
      (dynamicRotate 1 3073#32 (some (1, 0))
        (concatenate S1024x4096 1 [⟨S1024x3072, X⟩, ⟨S1024x1024, Y⟩] concatenates_S1024x3072_S1024x1024_S1024x4096_d1)
        rotates_S1024x4096_d1s1a0)
      slices_S1024x4096_o0_0_S1024x2048 (ValueIdx.ix2 r j) = X (ValueIdx.ix2 r k) := by
  have hr := r.isLt
  have hj := j.isLt
  have hk' := k.isLt
  rw [extractStridedSlice_apply _ _ _ _ (ValueIdx.ix2 r (⟨j.val, by omega⟩ : Fin 4096) : S1024x4096.Idx)
    (by intro a; match a with
        | 0 => exact (Nat.zero_add _).symm
        | 1 => exact (Nat.zero_add _).symm)]
  unfold dynamicRotate
  refine concatenate_pair_apply_left (t := S1024x4096) 1 X Y _ _ rfl (ValueIdx.ix2 r k) ?_
  intro b
  match b with
  | 0 => rfl
  | 1 =>
    show k.val = (j.val + 4096 - (3073 + 1 * r.val) % 4096) % 4096
    omega

/-- The amount by which a step rotates the table's row: the second grid coordinate 0 gives 3072 lanes,
    and 1 gives none. -/
theorem amount_val (n : Fin 2) :
    (let v6 : BitVec 32 := Scalar.subi 0#32 (Scalar.subi 2048#32 (Scalar.muli 1024#32 (Scalar.addi 1#32 (BitVec.ofNat 32 n.val))))
     let v8 : BitVec 32 := Scalar.select (Scalar.cmpi .eq 4096#32 0#32) 1#32 4096#32
     let v9 : BitVec 32 := Scalar.remsi v6 v8
     Scalar.select (Scalar.andi (Scalar.xori (Scalar.cmpi .slt v9 0#32) (Scalar.cmpi .slt v8 0#32)) (Scalar.cmpi .ne v9 0#32))
       (Scalar.addi v9 v8) v9).toNat = 3072 * (1 - n.val) := by
  revert n; decide

/-- The rotated row of the table, cut to 3072 lanes and broadcast down the tile, at `(r, q)`: the row's
    lane `k`, where `k` is `q` plus 1024 for the first block of rows and `q` for the second. -/
theorem rowTile_apply (w : BitVec 32) (n : Fin 2) (hw : w.toNat = 3072 * (1 - n.val)) (row : S1x4096.Idx → α)
    (r : Fin 1024) (q : Fin 3072) (k : Fin 4096) (hk : k.val = q.val + 1024 * (1 - n.val)) :
    broadcastTo S1024x3072
      (shapeCast S1x3072
        (extractStridedSlice S1x3072 ![0, 0]
          (dynamicRotate 1 w none (shapeCast S1x4096 row shapeCasts_S1x4096_S1x4096) rotates_S1x4096_d1)
          slices_S1x4096_o0_0_S1x3072)
        shapeCasts_S1x3072_S1x3072)
      broadcasts_S1x3072_S1024x3072 (ValueIdx.ix2 r q) = row (ValueIdx.ix2 0 k) := by
  have hq := q.isLt
  have hn := n.isLt
  rw [shapeCast_self, shapeCast_self,
    broadcastTo_apply _ _ _ (ValueIdx.ix2 (0 : Fin 1) q : S1x3072.Idx)
      (by intro a; match a with
          | 0 => rfl
          | 1 => rfl),
    extractStridedSlice_apply _ _ _ _ (ValueIdx.ix2 (0 : Fin 1) (⟨q.val, by omega⟩ : Fin 4096) : S1x4096.Idx)
      (by intro a; match a with
          | 0 => rfl
          | 1 => exact (Nat.zero_add _).symm)]
  refine dynamicRotate_apply _ _ _ _ _ _ ?_
  intro b
  match b with
  | 0 => rfl
  | 1 =>
    show k.val = (q.val + 4096 - w.toNat % 4096) % 4096
    rw [hw]
    omega

/-- One step's stored block at row `r` and column `j`: the score there plus the table row's lane
    `j + 2047 - p`, `p` the row's place `1024 * i + r` in the whole array. -/
theorem pay_apply (i : grid0.Coords) (row : Vec F S1x4096 .f32) (x : Vec F S1x1x1024x2048 .f32)
    (r : Fin 1024) (j : Fin 2048) (k : Fin 4096) (hk : k.val + (1024 * (i 1).val + r.val) = j.val + 2047) :
    k0_pay1 i row x (ValueIdx.ix4 0 0 r j) = FloatOps.addf (x (ValueIdx.ix4 0 0 r j)) (row (ValueIdx.ix2 0 k)) := by
  have hr := r.isLt
  have hj := j.isLt
  have hn : (i 1).val < 2 := (i 1).isLt
  unfold k0_pay1
  dsimp only
  rw [shapeCast_apply _ _ _ (ValueIdx.ix2 r j : S1024x2048.Idx)
    (by rw [Shape.rowMajor_val_two, Shape.rowMajor_val_four]
        show r.val * 2048 + j.val = ((0 * 1 + 0) * 1024 + r.val) * 2048 + j.val
        omega)]
  show FloatOps.addf _ _ = _
  rw [shapeCast_apply _ _ _ (ValueIdx.ix4 0 0 r j : S1x1x1024x2048.Idx)
    (by rw [Shape.rowMajor_val_two, Shape.rowMajor_val_four]
        show ((0 * 1 + 0) * 1024 + r.val) * 2048 + j.val = r.val * 2048 + j.val
        omega),
    stridedRoll_apply _ _ r j ⟨j.val + 1023 - r.val, by omega⟩ (by show j.val + 1023 - r.val + r.val = _; omega),
    rowTile_apply _ ⟨(i 1).val, hn⟩ (amount_val ⟨(i 1).val, hn⟩) row r _ k
      (by show k.val = j.val + 1023 - r.val + 1024 * (1 - (i 1).val); omega)]

end Cert.Bias

end
-- ==== Proof.Store.lean ====
module

public import proofs.«01_k».proof.Proof.Block
public import Idealize.ShloMosaic.Lib.VecWindow
public import Idealize.ShloMosaic.Lib.Pipeline.ValueKit.Tiles
@[expose] public section

/-!
  # What one grid point leaves in its output block

  The body stores once, over the whole block; what it stores is read off the table's row of the head and the
  block of scores.
-/

noncomputable section

namespace Cert.Bias

open Cert.KernelIdeal Cert.KernelIdeal.Gen Idealize.ShloMosaic Idealize.ShloMosaic.TcCoe

variable {F : FTy → Type} [FloatOps F]

/-- At grid point `i`, entry `(r, j)` of the output block is the score there plus the lane `k` of the head's
    table row, where `k` plus the row's number in the whole array is `j + 2047`. -/
theorem out_apply (c : Dev nD) (i : grid0.Coords) (arg2 : Memref sig .tc .vmem S16x4096 .f32) (harg2 : arg2.IsWhole)
    (arg3 : Memref sig .tc .vmem S1x1x1024x2048 .f32) (harg3 : arg3.IsWhole)
    (arg4 : Memref sig .tc .vmem S1x1x1024x2048 .f32) (harg4 : arg4.IsWhole)
    (x0 : Vec F S16x4096 .f32) (x1 : Vec F S1x1x1024x2048 .f32)
    (h : Fin 16) (hh : h.val = (i 0).val) (r : Fin 1024) (j : Fin 2048) (k : Fin 4096)
    (hk : k.val + (1024 * (i 1).val + r.val) = j.val + 2047) :
    out0_A_2 c i arg2 harg2 arg3 harg3 arg4 harg4 x0 x1 (ValueIdx.ix4 0 0 r j)
      = FloatOps.addf (x1 (ValueIdx.ix4 0 0 r j)) (x0 (ValueIdx.ix2 h k)) := by
  unfold out0_A_2 kernelRun0_A
  have hw := View.read_writes_cons_emb (v := VO0_2) (f := VO0_2.junk) (Val := Elt F)
    (Rect.unit (s := S1x1x1024x2048) ![0, 0, 0, 0] S1x1x1024x2048.size inb_S1x1x1024x2048_S1x1x1024x2048_0_0_0_0)
    (k0_pay1 i (arg2.view.readAt (Elt F) (Rect.unit (s := S16x4096) (k0_off1 i) S1x4096.size (k0_off1_inb i)).toLoadRect (harg2.unread x0))
      (arg3.view.readAt (Elt F) (Rect.unit (s := S1x1x1024x2048) ![0, 0, 0, 0] S1x1x1024x2048.size
        inb_S1x1x1024x2048_S1x1x1024x2048_0_0_0_0).toLoadRect (harg3.unread x1))) [] (ValueIdx.ix4 0 0 r j)
  rw [Rect.emb_unit_full] at hw
  refine hw.trans ?_
  refine (pay_apply i _ _ r j k hk).trans ?_
  rw [View.readAt_apply, View.readAt_apply, harg2.read_unread, harg3.read_unread]
  refine congrArg₂ FloatOps.addf (congrArg x1 (funext fun a => Fin.ext ?_)) (congrArg x0 (funext fun a => Fin.ext ?_))
  · refine (Rect.idx_unit_val ..).trans ?_
    match a with
    | ⟨0, _⟩ => rfl
    | ⟨1, _⟩ => rfl
    | ⟨2, _⟩ => exact Nat.zero_add _
    | ⟨3, _⟩ => exact Nat.zero_add _
  · refine (Rect.idx_unit_val ..).trans ?_
    have o := k0_off1_eq i
    match a with
    | ⟨0, _⟩ => exact (congrArg (· + 0) (congrFun o 0)).trans hh.symm
    | ⟨1, _⟩ => exact (congrArg (· + k.val) (congrFun o 1)).trans (Nat.zero_add _)

end Cert.Bias

end
-- ==== Proof.Spec.lean ====
module

public import Idealize.ShloMosaic.Lib.ValueIdxCore
@[expose] public section

/-!
  # Attention scores with a learned bias of the relative position

  The one function that both programs are shown to compute.
-/

noncomputable section

namespace Cert.Bias

open Idealize.ShloMosaic

variable {F : FTy → Type} [FloatOps F]

/-- The score of query `p` and key `j` in head `h`, plus the bias that the table holds for the relative
    position `j - p` in that head: the table's row `j - p + 2047`. -/
def biased (attn : FVec F ⟨4, ![1, 16, 2048, 2048]⟩ .f32) (table : FVec F ⟨2, ![4095, 16]⟩ .f32) :
    FVec F ⟨4, ![1, 16, 2048, 2048]⟩ .f32 := fun i =>
  FloatOps.addf (attn i) (table (ValueIdx.ix2
    ⟨(i 3).val + 2047 - (i 2).val, by
      have h3 : (i 3).val < 2048 := (i 3).isLt
      have h2 : (i 2).val < 2048 := (i 2).isLt
      omega⟩ (i 1)))

end Cert.Bias

end
-- ==== Proof.Array.lean ====
module

public import proofs.«01_k».proof.Proof.Entry
public import proofs.«01_k».proof.Proof.Store
public import proofs.«01_k».proof.Proof.Spec
@[expose] public section

/-!
  # The kernel's result array

  Every entry of the result lies in the block of one grid point: head `h`, row block `p / 1024`.
-/

noncomputable section

namespace Cert.Bias

open Cert.KernelIdeal Cert.KernelIdeal.Gen Idealize.ShloMosaic Idealize.ShloMosaic.TcCoe

variable {F : FTy → Type} [FloatOps F]
variable (m : (ℓ : Loc nD τ sig) → Buf (Elt F) ℓ)

/-- The grid runs through the heads, and within a head through its two row blocks. -/
theorem coords_facts : ∀ t : Fin cfg0.N, (grid0.coords t 0).val = t.val / 2 ∧ (grid0.coords t 1).val = t.val % 2 :=
  (by decide +kernel : ∀ t : Fin grid0.N, _)

/-- The table's block is the whole table at every point. -/
theorem index0 : ∀ t : Fin cfg0.N, win0_0.index t (0 : Fin 2) = 0 ∧ win0_0.index t (1 : Fin 2) = 0 :=
  (by decide +kernel : ∀ t : Fin grid0.N, _)

/-- The scores' block at point `t` is that of head `t / 2` and row block `t % 2`. -/
theorem index1 : ∀ t : Fin cfg0.N, win0_1.index t (0 : Fin 4) = 0 ∧ win0_1.index t (1 : Fin 4) = t.val / 2
    ∧ win0_1.index t (2 : Fin 4) = t.val % 2 ∧ win0_1.index t (3 : Fin 4) = 0 :=
  (by decide +kernel : ∀ t : Fin grid0.N, _)

/-- The result's block at point `t` is that of head `t / 2` and row block `t % 2`. -/
theorem index2 : ∀ t : Fin cfg0.N, win0_2.index t (0 : Fin 4) = 0 ∧ win0_2.index t (1 : Fin 4) = t.val / 2
    ∧ win0_2.index t (2 : Fin 4) = t.val % 2 ∧ win0_2.index t (3 : Fin 4) = 0 :=
  (by decide +kernel : ∀ t : Fin grid0.N, _)

/-- An entry of the table's block is the same entry of the table. -/
theorem emb0 (t : Fin cfg0.N) (y : S16x4096.Idx) : ((cfg0.win 0).blk t).view.emb y = y := by
  obtain ⟨e0, e1⟩ := index0 t
  funext a; apply Fin.ext
  match a with
  | ⟨0, _⟩ => show win0_0.index t (0 : Fin 2) * 16 + 1 * (y 0).val = (y 0).val; omega
  | ⟨1, _⟩ => show win0_0.index t (1 : Fin 2) * 4096 + 1 * (y 1).val = (y 1).val; omega

/-- Where entry `(r, j)` of the scores' block lies in the scores. -/
theorem emb1 (t : Fin cfg0.N) (h : Fin 16) (p j : Fin 2048) (r : Fin 1024) (hh : t.val / 2 = h.val)
    (hp : t.val % 2 * 1024 + r.val = p.val) :
    ((cfg0.win 1).blk t).view.emb (ValueIdx.ix4 (0 : Fin 1) (0 : Fin 1) r j) = (ValueIdx.ix4 0 h p j : S1x16x2048x2048.Idx) := by
  obtain ⟨e0, e1, e2, e3⟩ := index1 t
  funext a; apply Fin.ext
  match a with
  | ⟨0, _⟩ => show win0_1.index t (0 : Fin 4) * 1 + 1 * 0 = 0; omega
  | ⟨1, _⟩ => show win0_1.index t (1 : Fin 4) * 1 + 1 * 0 = h.val; omega
  | ⟨2, _⟩ => show win0_1.index t (2 : Fin 4) * 1024 + 1 * r.val = p.val; omega
  | ⟨3, _⟩ => show win0_1.index t (3 : Fin 4) * 2048 + 1 * j.val = j.val; omega

/-- Where entry `(r, j)` of the result's block lies in the result. -/
theorem emb2 (t : Fin cfg0.N) (h : Fin 16) (p j : Fin 2048) (r : Fin 1024) (hh : t.val / 2 = h.val)
    (hp : t.val % 2 * 1024 + r.val = p.val) :
    ((cfg0.win 2).blk t).view.emb (ValueIdx.ix4 (0 : Fin 1) (0 : Fin 1) r j) = (ValueIdx.ix4 0 h p j : S1x16x2048x2048.Idx) := by
  obtain ⟨e0, e1, e2, e3⟩ := index2 t
  funext a; apply Fin.ext
  match a with
  | ⟨0, _⟩ => show win0_2.index t (0 : Fin 4) * 1 + 1 * 0 = 0; omega
  | ⟨1, _⟩ => show win0_2.index t (1 : Fin 4) * 1 + 1 * 0 = h.val; omega
  | ⟨2, _⟩ => show win0_2.index t (2 : Fin 4) * 1024 + 1 * r.val = p.val; omega
  | ⟨3, _⟩ => show win0_2.index t (3 : Fin 4) * 2048 + 1 * j.val = j.val; omega

/-- The table's block at any point, read at a lane of a head's row: the argument's entry. -/
theorem iblk0_apply (c : Dev nD) (t : Fin cfg0.N) (h : Fin 16) (q : Fin 4096) (k : Fin 4095) (hk : k.val = q.val) :
    (iblk m c 0 t : Vec F S16x4096 .f32) (ValueIdx.ix2 h q)
      = (m ((c : Thread nD τ).loc main_arg2) : Vec F S4095x16 .f32) (ValueIdx.ix2 k h) := by
  show (V m c main_call0_v1 : Vec F S16x4096 .f32) (((cfg0.win 0).blk t).view.emb (ValueIdx.ix2 h q)) = _
  rw [emb0]
  exact V_table_apply m c h q k hk

/-- The scores' block at a point, read at `(r, j)`: the argument's entry. -/
theorem iblk1_apply (c : Dev nD) (t : Fin cfg0.N) (h : Fin 16) (p j : Fin 2048) (r : Fin 1024) (hh : t.val / 2 = h.val)
    (hp : t.val % 2 * 1024 + r.val = p.val) :
    (iblk m c 1 t : Vec F S1x1x1024x2048 .f32) (ValueIdx.ix4 0 0 r j)
      = (m ((c : Thread nD τ).loc main_arg1) : Vec F S1x16x2048x2048 .f32) (ValueIdx.ix4 0 h p j) := by
  show (V m c main_arg1 : Vec F S1x16x2048x2048 .f32) (((cfg0.win 1).blk t).view.emb (ValueIdx.ix4 (0 : Fin 1) (0 : Fin 1) r j)) = _
  rw [emb1 t h p j r hh hp, V_main_arg1]

/-- The result of the kernel at head `h`, query `p` and key `j`. -/
theorem final_apply (c : Dev nD) (h : Fin 16) (p j : Fin 2048) :
    ((dats m 0 c).arrAt 2 cfg0.N : Vec F S1x16x2048x2048 .f32) (ValueIdx.ix4 0 h p j)
      = biased (m ((c : Thread nD τ).loc main_arg1)) (m ((c : Thread nD τ).loc main_arg2)) (ValueIdx.ix4 0 h p j) := by
  have hN : cfg0.N = 32 := by decide
  obtain ⟨t, ht⟩ : ∃ t : Fin cfg0.N, t.val = 2 * h.val + p.val / 1024 :=
    ⟨⟨2 * h.val + p.val / 1024, by omega⟩, rfl⟩
  obtain ⟨c0, c1⟩ := coords_facts t
  let r : Fin 1024 := ⟨p.val % 1024, by omega⟩
  have hr : r.val = p.val % 1024 := rfl
  have hh : t.val / 2 = h.val := by omega
  have hp : t.val % 2 * 1024 + r.val = p.val := by omega
  have b := congrFun (Cert.KernelIdeal.Value.blocks2 m c t (flush0_2 t)) (ValueIdx.ix4 (0 : Fin 1) (0 : Fin 1) r j)
  rw [Cert.KernelIdeal.Value.flushed2_A] at b
  have b' : ((dats m 0 c).arrAt 2 cfg0.N : Vec F S1x16x2048x2048 .f32)
      (((cfg0.win 2).blk t).view.emb (ValueIdx.ix4 (0 : Fin 1) (0 : Fin 1) r j)) = _ := b
  rw [emb2 t h p j r hh hp] at b'
  refine b'.trans ((out_apply c (grid0.coords t) (ms0_0 t) (hs0_0 t) (ms0_1 t) (hs0_1 t) (ms0_2 t) (hs0_2 t)
    (iblk m c 0 t) (iblk m c 1 t) h (by omega) r j ⟨j.val + 2047 - p.val, by omega⟩ ?_).trans ?_)
  · show j.val + 2047 - p.val + (1024 * (grid0.coords t 1).val + r.val) = j.val + 2047
    omega
  · rw [iblk1_apply m c t h p j r hh hp, iblk0_apply m c t h _ ⟨j.val + 2047 - p.val, by omega⟩ rfl]
    rfl

/-- The kernel leaves the biased scores. -/
theorem final_eq (c : Dev nD) :
    (dats m 0 c).arrAt 2 cfg0.N = biased (m ((c : Thread nD τ).loc main_arg1)) (m ((c : Thread nD τ).loc main_arg2)) := by
  refine funext fun (i : S1x16x2048x2048.Idx) => ?_
  obtain ⟨h, p, j, rfl⟩ : ∃ (h : Fin 16) (p j : Fin 2048), i = ValueIdx.ix4 0 h p j :=
    ⟨i 1, i 2, i 3, funext fun a => by
      match a with
      | ⟨0, _⟩ => exact Subsingleton.elim (α := Fin 1) _ _
      | ⟨1, _⟩ => rfl
      | ⟨2, _⟩ => rfl
      | ⟨3, _⟩ => rfl⟩
  exact final_apply m c h p j

end Cert.Bias

end
-- ==== Proof.Ref.lean ====
module

public import proofs.«01_k».proof.Proof.Gen.ReferenceIdeal.Read
public import proofs.«01_k».proof.Proof.Spec
public import Idealize.ShloMosaic.PureOps.Reduce
@[expose] public section

/-!
  # What the reference computes

  The relative position `j - p + 2048 - 1` always lies in the table, so the clip leaves it as it is, the
  lookup's wrap of negative positions and its mask of positions outside the table never act, and the
  gather reads the table's row `j + 2047 - p`.
-/

noncomputable section

namespace Cert.Bias.Ref

open Cert.ReferenceIdeal Cert.ReferenceIdeal.Gen Cert.ReferenceIdeal.Read Idealize.ShloMosaic Idealize.ShloMosaic.TcCoe

variable {F : FTy → Type} [FloatOps F]

/-- A word of a number below the table's length, read signed, is the number. -/
theorem toInt_small (q : Nat) (hq : q ≤ 4094) : (BitVec.ofNat 32 q).toInt = (q : Int) := by
  rw [BitVec.toInt_eq_toNat_cond, BitVec.toNat_ofNat]
  omega

/-- The clipped relative position of key `j` to query `p`, as a word. -/
theorem position_word (p j : Nat) (hp : p < 2048) (hj : j < 2048) :
    IntOp.minsi (4094#32) (IntOp.maxsi (0#32)
      (IntOp.subi (IntOp.addi (IntOp.subi (BitVec.ofNat 32 j) (BitVec.ofNat 32 p)) (2048#32)) (1#32)))
      = BitVec.ofNat 32 (j + 2047 - p) := by
  have e : IntOp.subi (IntOp.addi (IntOp.subi (BitVec.ofNat 32 j) (BitVec.ofNat 32 p)) (2048#32)) (1#32)
      = BitVec.ofNat 32 (j + 2047 - p) := by
    apply BitVec.eq_of_toNat_eq
    simp only [IntOp.subi, IntOp.addi, BitVec.toNat_sub, BitVec.toNat_add, BitVec.toNat_ofNat]
    omega
  rw [e]
  generalize hq : j + 2047 - p = q
  have hq' : q ≤ 4094 := by omega
  have hi := toInt_small q hq'
  have hlo : (BitVec.ofNat 32 q).slt (0#32) = false := by
    simp only [BitVec.slt, hi, BitVec.toInt_zero]
    exact decide_eq_false (by omega)
  have hhi : (4094#32).slt (BitVec.ofNat 32 q) = false := by
    simp only [BitVec.slt, hi, show (4094#32).toInt = 4094 from by decide]
    exact decide_eq_false (by omega)
  unfold IntOp.minsi IntOp.maxsi
  by_cases h0 : (BitVec.ofNat 32 q).slt (0#32) = true
  · rw [hlo] at h0; cases h0
  · rw [if_neg h0, hhi]; rfl

/-- The position that the lookup reads, at query `p` and key `j`. -/
theorem start_apply (p j : Fin 2048) :
    val_main_call1_v5 (F := F) (ValueIdx.ix3 p j 0) = BitVec.ofNat 32 (j.val + 2047 - p.val) := by
  have hp := p.isLt
  have hj := j.isLt
  have hw : val_main_v10 (F := F) (idx_main_call1_v5 (ValueIdx.ix3 p j 0)) = BitVec.ofNat 32 (j.val + 2047 - p.val) := by
    rw [val_main_v10_apply, val_main_call0_v4_apply, val_main_call0_v3_apply, val_main_c_2_apply, val_main_call0_v2_apply,
      val_main_call0_v1_apply, val_main_call0_v0_apply, val_main_c_1_apply, val_main_v9_apply, val_main_v8_apply,
      val_main_c_0_apply, val_main_v7_apply, val_main_v6_apply, val_main_c_apply, val_main_v5_apply, val_main_v4_apply,
      val_main_v3_apply, val_main_v2_apply, val_main_v1_apply, val_main_v0_apply, val_main_v0_apply]
    exact position_word p.val j.val hp hj
  rw [val_main_call1_v5_apply, val_main_call1_v4_apply, val_main_call1_v1_apply, val_main_call1_v0_apply,
    val_main_call1_c_apply, hw]
  have hlo : IntOp.cmpi .slt (BitVec.ofNat 32 (j.val + 2047 - p.val)) (0#32) = 0#1 := by
    simp only [IntOp.cmpi, BitVec.slt, toInt_small _ (show j.val + 2047 - p.val ≤ 4094 by omega), BitVec.toInt_zero]
    rw [decide_eq_false (by omega)]; rfl
  rw [hlo]
  rfl

/-- Every index of the positions' array is a query, a key and 0. -/
theorem eq_ix3_zero (i : S2048x2048x1.Idx) : ∃ p j : Fin 2048, i = ValueIdx.ix3 p j (0 : Fin 1) := by
  refine ⟨i 0, i 1, ?_⟩
  funext a
  match a with
  | 0 => rfl
  | 1 => rfl
  | 2 => exact Fin.ext (by have h : (i 2).val < 1 := (i 2).isLt; show (i 2).val = 0; omega)

/-- Every position lies in the table. -/
theorem inside_apply (i : S2048x2048x1.Idx) : val_main_call1_v11 (F := F) i = 1#1 := by
  rw [val_main_call1_v11_apply, val_main_call1_v7_apply, val_main_call1_v10_apply, val_main_call1_v6_apply,
    val_main_call1_c_2_apply, val_main_call1_v9_apply, val_main_call1_v8_apply, val_main_call1_c_1_apply]
  obtain ⟨p, j, rfl⟩ := eq_ix3_zero i
  rw [start_apply]
  have hq := toInt_small (j.val + 2047 - p.val) (by omega)
  simp only [IntOp.cmpi, IntOp.andi, BitVec.sle, BitVec.toInt_zero, show (4094#32).toInt = 4094 from by decide]
  rw [decide_eq_true (by rw [hq]; omega), decide_eq_true (by rw [hq]; omega)]
  rfl

instance : Std.Commutative (IntOp.andi (w := 1)) := ⟨BitVec.and_comm⟩
instance : Std.Associative (IntOp.andi (w := 1)) := ⟨BitVec.and_assoc⟩

/-- A conjunction of bits that are all set, from a set bit, is set. -/
theorem fold_andi_one {n : Nat} (f : Fin n → BitVec 1) (b : BitVec 1) (hb : b = 1#1) (hf : ∀ k, f k = 1#1) :
    (Finset.univ : Finset (Fin n)).fold IntOp.andi b f = 1#1 := by
  subst hb
  generalize (Finset.univ : Finset (Fin n)) = s
  induction s using Finset.induction_on with
  | empty => rfl
  | insert k s hk ih => rw [Finset.fold_insert hk, ih, hf k]; rfl

/-- The lookup's mask is set everywhere. -/
theorem mask_apply (i : S2048x2048.Idx) : val_main_call1_v12 (F := F) i = 1#1 := by
  unfold val_main_call1_v12
  rw [Host.reduce_eq_fold_single IntOp.andi _ _ _ (by decide : S2048x2048x1.Reduces [2] S2048x2048)]
  exact fold_andi_one _ _ rfl (fun k => inside_apply _)

/-- The gather at query `p`, key `j` and head `h`: the table's row that the position names, at the head. -/
theorem gather_apply (x : S4095x16.Idx → Elt F .f32) (idx : IVec S2048x2048x1 32) (p j : Fin 2048) (h : Fin 16) (k : Fin 4095)
    (hk : idx (ValueIdx.ix3 p j 0) = BitVec.ofNat 32 k.val) :
    Host.gather gather_S4095x16_S2048x2048x1_S2048x2048x16_2_0_n_n_0_2_116 x idx (ValueIdx.ix3 p j h) = x (ValueIdx.ix2 k h) := by
  have hk4 : k.val ≤ 4094 := by have := k.isLt; omega
  unfold Host.gather
  refine congrArg x (funext fun a => Fin.ext ?_)
  generalize hD : gather_S4095x16_S2048x2048x1_S2048x2048x16_2_0_n_n_0_2_116 = D
  show D.start (ValueIdx.ix3 p j h) idx a + D.batchCoord (ValueIdx.ix3 p j h) a + D.offCoord (ValueIdx.ix3 p j h) a = _
  subst hD
  rw [GatherDims.batchCoord_eq_zero _ _ _ (List.not_mem_nil), Nat.add_zero]
  match a with
  | 0 =>
    rw [GatherDims.offCoord_eq_zero _ _ _ (by decide), Nat.add_zero]
    unfold GatherDims.start
    rw [dif_pos (by decide)]
    have e : ∀ q : S2048x2048x1.Idx, q = ValueIdx.ix3 p j 0 → min (idx q).toInt.toNat (4095 - 1) = k.val := by
      intro q hq
      rw [hq, hk, toInt_small _ hk4]
      show min k.val (4095 - 1) = k.val
      omega
    refine e _ (funext fun b => Fin.ext ?_)
    match b with
    | 0 => rfl
    | 1 => rfl
    | 2 => rfl
  | 1 =>
    unfold GatherDims.start
    rw [dif_neg (by decide), Nat.zero_add]
    rfl

/-- The reference's result is the scores with the bias. -/
theorem result_eq (attn : Vec F S1x16x2048x2048 .f32) (table : Vec F S4095x16 .f32) :
    val_main_v14 (F := F) attn table = biased attn table := by
  funext i
  have h2 : (i 2).val < 2048 := (i 2).isLt
  have h3 : (i 3).val < 2048 := (i 3).isLt
  rw [val_main_v14_apply, val_main_v13_apply, val_main_v12_apply, val_main_v11_apply, val_main_call1_v14_apply, mask_apply,
    ValueIdx.select_one]
  unfold biased
  refine congrArg (FloatOps.addf (attn i)) ?_
  have e : idx_main_v12 (idx_main_v13 i) = ValueIdx.ix3 (n0 := 2048) (n1 := 2048) (n2 := 16) (i 2) (i 3) (i 1) := by
    funext a
    match a with
    | 0 => rfl
    | 1 => rfl
    | 2 => rfl
  rw [e]
  exact gather_apply table _ (i 2) (i 3) (i 1) _ (start_apply (i 2) (i 3))

end Cert.Bias.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Array
public import proofs.«01_k».proof.Proof.Ref
public import Idealize.ShloMosaic.Adequacy
public import Idealize.ShloMosaic.Init

@[expose] public section

noncomputable section

namespace Cert.Proof

open Idealize.ShloMosaic Idealize.SL.Sem

/-- The reference runs from every memory, leaves its arguments as they were and every semaphore at zero. -/
theorem refFrame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments the kernel and the reference end with equal results: the biased scores. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Bias.biased (F := Ideal) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Bias.final_eq m c), (h c).2⟩) (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v14_eq m' c).trans ((Cert.Bias.Ref.result_eq _ _).trans ?_)
    rw [(hagree c).2.1, (hagree c).2.2]

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, refFrame, trivial, algebraic⟩

end Cert.Proof

end
